-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S128x128x2048 : Shape := ⟨3, ![128, 128, 2048]⟩
abbrev S8x128x2048 : Shape := ⟨3, ![8, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S128x128x2048, .f32⟩
  | .hbm, ⟨1, _⟩ => ⟨S128x128x2048, .f32⟩
  | .local _ .vmem, ⟨0, _⟩ => ⟨S8x128x2048, .f32⟩
  | .local _ .vmem, ⟨1, _⟩ => ⟨S8x128x2048, .f32⟩
  | .local _ .vmem, ⟨2, _⟩ => ⟨S8x128x2048, .f32⟩
  | .local _ .vmem, ⟨3, _⟩ => ⟨S8x128x2048, .f32⟩
  | _, _ => ⟨S128x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S128x128x2048 : Shape := ⟨3, ![128, 128, 2048]⟩
abbrev S_ : Shape := ⟨0, ![]⟩
abbrev S1 : Shape := ⟨1, ![1]⟩
abbrev S128x12x2048 : Shape := ⟨3, ![128, 12, 2048]⟩

abbrev nBuf : Space → Nat
  | .hbm => 6
  | .vmem => 0
  | .smem => 0
  | _ => 0

abbrev bufTy : (tb : Table) → Fin (tcTables nBuf tb) → BufTy
  | .hbm, ⟨0, _⟩ => ⟨S128x128x2048, .f32⟩
  | .hbm, ⟨1, _⟩ => ⟨S_, .i32⟩
  | .hbm, ⟨2, _⟩ => ⟨S1, .i32⟩
  | .hbm, ⟨3, _⟩ => ⟨S_, .f32⟩
  | .hbm, ⟨4, _⟩ => ⟨S128x12x2048, .f32⟩
  | .hbm, ⟨5, _⟩ => ⟨S128x128x2048, .f32⟩
  | _, _ => ⟨S128x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mask.lean ====
/-
  The mathematics of the frequency mask, named once for both programs: `masked x`, the array `x` with rows 47 to 58 of its
  middle axis at the float of the word zero. The kernel's mask bit at a frequency, and the reference's scatter, each read as that.
-/
module

public import Idealize.ShloMosaic.Lib.Routing.OpsSet
public import Idealize.ShloMosaic.Lib.Routing.OpsPair
public import Idealize.ShloMosaic.PureOps

@[expose] public section

noncomputable section

namespace Cert.Mask

open Idealize.ShloMosaic Idealize.ShloMosaic.Routing

/-- The whole array's shape: batch, frequency, time. -/
abbrev SX : Shape := ⟨3, ![128, 128, 2048]⟩
/-- The shape of the band that the reference overwrites: all batches, twelve frequencies, all times. -/
abbrev SU : Shape := ⟨3, ![128, 12, 2048]⟩
/-- The shape of the reference's one index word. -/
abbrev SI : Shape := ⟨1, ![1]⟩

variable {F : FTy → Type} [FloatOps F]

/-- The array `x` with frequencies 47 to 58 set to zero. -/
def masked (x : FVec F SX .f32) : FVec F SX .f32 := fun i =>
  if 47 ≤ (i 1).val ∧ (i 1).val < 59 then FloatOps.ofBits .f32 0x00000000#32 else x i

/-- The kernel's choice at frequency `r`: its keep bit, `r < 47` or `r ≥ 59` on 32-bit words, is clear exactly on the band. -/
theorem select_keep {α : Type} (r : Nat) (hr : r < 128) (a z : α) :
    Scalar.select (IntOp.ori (IntOp.cmpi .slt (BitVec.ofNat 32 r) 47#32) (IntOp.cmpi .sge (BitVec.ofNat 32 r) 59#32)) a z
      = if 47 ≤ r ∧ r < 59 then z else a := by
  have key : ∀ r < 128,
      (IntOp.ori (IntOp.cmpi .slt (BitVec.ofNat 32 r) 47#32) (IntOp.cmpi .sge (BitVec.ofNat 32 r) 59#32) = 1 ↔ ¬ (47 ≤ r ∧ r < 59)) := by
    decide +kernel
  unfold Scalar.select
  by_cases h : 47 ≤ r ∧ r < 59
  · rw [if_neg fun e => (key r hr).1 e h, if_pos h]
  · rw [if_pos ((key r hr).2 h), if_neg h]

section Scatter

variable (d : ScatterDims SX SI SU) (idx : IVec SI 32)

/-- The scatter's window begins at the index word's value on the frequency axis and at zero on the others. -/
theorem start_eq (hs : d.scatterDimsToOperandDims = [1]) (w : BitVec 32) (hidx : ∀ j, idx j = w) (k : SU.Idx) (a : Fin 3) :
    d.start k idx a = if a = 1 then w.toInt else 0 := by
  unfold ScatterDims.start
  by_cases h : a = 1
  · rw [dif_pos (by rw [hs, h]; exact List.mem_singleton.2 rfl), if_pos h, hidx]
  · rw [dif_neg (by rw [hs]; exact fun q => h (List.mem_singleton.1 q)), if_neg h]

/-- Inside its window an update has its own coordinates: no axis is inserted, and the window's axes are the operand's in order. -/
theorem window_eq (hu : d.updateWindowDims = [0, 1, 2]) (hi : d.insertedWindowDims = []) (k : SU.Idx) (a : Fin 3) :
    d.window k a = (k a).val := by
  obtain ⟨uw, iw, sd, iv, wf⟩ := d
  dsimp only at hu hi
  subst hu hi
  fin_cases a <;> rfl

/-- Update `k` lands at `i` exactly when `i` is `k` moved by 47 frequencies. -/
theorem lands (hu : d.updateWindowDims = [0, 1, 2]) (hi : d.insertedWindowDims = []) (hs : d.scatterDimsToOperandDims = [1])
    (hidx : ∀ j, idx j = 47#32) (k : SU.Idx) (i : SX.Idx) :
    d.resultIdx? k idx = some i ↔ (k 0).val = (i 0).val ∧ 47 + (k 1).val = (i 1).val ∧ (k 2).val = (i 2).val := by
  have w47 : (47#32 : BitVec 32).toInt = 47 := by decide
  rw [resultIdx?_eq_some]
  have e : ∀ a : Fin 3, d.start k idx a + (d.window k a : Int) = ((i a).val : Int)
      ↔ (if a = 1 then 47 else 0) + (k a).val = (i a).val := fun a => by
    rw [start_eq d idx hs _ hidx, window_eq d hu hi, w47]
    split <;> omega
  constructor
  · intro h
    have h0 := (e 0).1 (h 0)
    have h1 := (e 1).1 (h 1)
    have h2 := (e 2).1 (h 2)
    rw [if_neg (by decide)] at h0 h2
    rw [if_pos rfl] at h1
    exact ⟨by omega, h1, by omega⟩
  · rintro ⟨h0, h1, h2⟩ a
    refine (e a).2 ?_
    match a with
    | ⟨0, _⟩ => exact (Nat.zero_add _).trans h0
    | ⟨1, _⟩ => exact h1
    | ⟨2, _⟩ => exact (Nat.zero_add _).trans h2

/-- The reference's scatter of zeros at frequency 47 is the masked array. -/
theorem scatter_eq (hu : d.updateWindowDims = [0, 1, 2]) (hi : d.insertedWindowDims = []) (hs : d.scatterDimsToOperandDims = [1])
    (hidx : ∀ j, idx j = 47#32) (x : FVec F SX .f32) (upd : FVec F SU .f32) (hupd : ∀ k, upd k = FloatOps.ofBits .f32 0x00000000#32) :
    Host.scatter d (fun _ b => b) x idx upd = masked x := by
  funext i
  unfold masked
  by_cases h : 47 ≤ (i 1).val ∧ (i 1).val < 59
  · rw [if_pos h]
    refine scatter_set_hit d x idx upd i _ (fun k _ => hupd k)
      (fun | ⟨0, _⟩ => ⟨(i 0).val, (i 0).isLt⟩ | ⟨1, _⟩ => ⟨(i 1).val - 47, ?_⟩ | ⟨2, _⟩ => ⟨(i 2).val, (i 2).isLt⟩)
      ((lands d idx hu hi hs hidx _ i).2 ⟨rfl, ?_, rfl⟩)
    · show (i 1).val - 47 < 12
      omega
    · show 47 + ((i 1).val - 47) = (i 1).val
      omega
  · rw [if_neg h]
    refine scatter_set_miss d x idx upd i fun k q => h ?_
    have hk : (k 1).val < 12 := (k 1).isLt
    have := ((lands d idx hu hi hs hidx k i).1 q).2.1
    omega

end Scatter

end Cert.Mask

end
-- ==== Proof.KernelIdealMasked.lean ====
/-
  What the pipelined kernel KernelIdeal leaves in its result array: the masked argument. Each of the sixteen grid points writes
  back its own eight batches of that one array, and the points' blocks fill it.
-/
module

public import proofs.«01_k».proof.Proof.Mask
public import proofs.«01_k».proof.Proof.Gen.KernelIdeal.Value

@[expose] public section

noncomputable section

namespace Cert.KernelIdeal.Masked

open Cert.KernelIdeal Cert.KernelIdeal.Gen Cert.Mask Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The array the kernel is shown to leave on device `c`: its argument, masked. -/
abbrev result (c : Dev nD) : Buf (Elt F) ((c : Thread nD τ).loc main_v0) := masked (F := F) (m ((c : Thread nD τ).loc main_arg0))

/-- The offsets of the body's load and store are zero. -/
theorem origin : (![0, 0, 0] : Fin 3 → Nat) = fun _ => 0 := funext fun a => by fin_cases a <;> rfl

/-- The body's stored value at an index of the block: zero on the band, the loaded element elsewhere. -/
theorem pay_apply (x : Vec F S8x128x2048 .f32) (j : S8x128x2048.Idx) :
    k0_pay1 x j = if 47 ≤ (j 1).val ∧ (j 1).val < 59 then FloatOps.ofBits .f32 0x00000000#32 else x j := by
  rw [← select_keep (j 1).val (j 1).isLt]
  unfold k0_pay1
  simp only [select, ori, cmpi, broadcast, iota, List.foldl_cons, List.foldl_nil, Nat.zero_mul, Nat.zero_add, Scalar.ofBits]

/-- Grid point `t`'s block of the result begins at batch `8 t`, frequency 0, time 0. -/
theorem idx_facts : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Index `j` of point `t`'s block is, on the frequency axis, index `j` of the array. -/
theorem emb_freq (t : Fin cfg0.N) (j : S8x128x2048.Idx) : (((win0_1.rect t).emb j) (1 : Fin 3)).val = (j 1).val := by
  exact Pipeline.Window.rect_emb_val_of_index_zero win0_1 t (1 : Fin 3) (idx_facts t).2.1 j

/-- What point `t` writes back is its block of the masked argument. -/
theorem flushed_eq (c : Dev nD) (t : Fin cfg0.N) :
    (dats m 0 c).flushed 1 t = (win0_1.blk t).view.read (Elt F) (result m c) := by
  rw [Value.flushed1]
  unfold out0_1
  rw [View.canon_unit_zero origin, View.ld_unit_zero origin]
  funext j
  refine (pay_apply (iblk m c 0 t) j).trans ?_
  show _ = if 47 ≤ (((win0_1.rect t).emb j) (1 : Fin 3)).val ∧ (((win0_1.rect t).emb j) (1 : Fin 3)).val < 59 then _ else _
  rw [emb_freq t j]
  rfl

/-- Every index of the result lies in the block of the point that has its batch. -/
theorem cover (i : S128x128x2048.Idx) :
    ∃ t : Fin cfg0.N, (cfg0.win 1).flush t = true ∧ i ∈ ((cfg0.win 1).blk t).view.set := by
  have h0 : (i 0).val < 128 := (i 0).isLt
  have h1 : (i 1).val < 128 := (i 1).isLt
  have h2 : (i 2).val < 2048 := (i 2).isLt
  have hN : cfg0.N = 16 := N_0
  have ht : (i 0).val / 8 < cfg0.N := by omega
  refine ⟨⟨(i 0).val / 8, ht⟩, flush0_1 _, ?_⟩
  obtain ⟨e0, e1, e2⟩ := idx_facts ⟨(i 0).val / 8, ht⟩
  show i ∈ ((View.whole main_v0).slice (win0_1.rect ⟨(i 0).val / 8, ht⟩)).set
  rw [View.set_slice_whole, Rect.mem_set_unit]
  intro a
  match a with
  | ⟨0, _⟩ =>
    show win0_1.index ⟨(i 0).val / 8, ht⟩ (0 : Fin 3) * 8 ≤ (i 0).val ∧ (i 0).val < win0_1.index ⟨(i 0).val / 8, ht⟩ (0 : Fin 3) * 8 + 8
    rw [e0]; dsimp only; omega
  | ⟨1, _⟩ =>
    show win0_1.index ⟨(i 0).val / 8, ht⟩ (1 : Fin 3) * 128 ≤ (i 1).val ∧ (i 1).val < win0_1.index ⟨(i 0).val / 8, ht⟩ (1 : Fin 3) * 128 + 128
    rw [e1]; omega
  | ⟨2, _⟩ =>
    show win0_1.index ⟨(i 0).val / 8, ht⟩ (2 : Fin 3) * 2048 ≤ (i 2).val ∧ (i 2).val < win0_1.index ⟨(i 0).val / 8, ht⟩ (2 : Fin 3) * 2048 + 2048
    rw [e2]; omega

/-- So the kernel ends with its result array at the masked argument, and the argument unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans ((dats m 0 c).arrAt_eq_of_cover 1 (result m c) (fun t _ => flushed_eq m c t) cover), (h c).2⟩)
    (Value.run_blocks m ρ)

end Cert.KernelIdeal.Masked

end
-- ==== Proof.ReferenceMasked.lean ====
/-
  What the reference Reference leaves in its result array: the masked argument.
-/
module

public import proofs.«01_k».proof.Proof.Mask
public import proofs.«01_k».proof.Proof.Gen.Reference.Run

@[expose] public section

noncomputable section

namespace Cert.Reference.Masked

open Cert.Reference Cert.Reference.Gen Cert.Mask Idealize.ShloMosaic Idealize.ShloMosaic.TcCoe Idealize.SL.Sem

variable {F : FTy → Type} [FloatOps F]
variable (m : (ℓ : Loc nD τ sig) → Buf (Elt F) ℓ) (ρ : Dev nD → PrngReg)

/-- The reference ends with its result array at the masked argument, and the argument unchanged. -/
theorem run : θ_run defs (onTc (τ := τ) (main (F := F))) ⟨m, fun _ => 0, ρ⟩ fun r => ∀ c : Dev nD,
      r.2.mem ((c : Thread nD τ).loc main_v2) = masked (F := F) (m ((c : Thread nD τ).loc main_arg0))
      ∧ r.2.mem ((c : Thread nD τ).loc main_arg0) = m ((c : Thread nD τ).loc main_arg0) :=
  (θ_run defs _ _).mono (fun _ h c => ⟨(h c).1.trans (scatter_eq _ _ rfl rfl rfl (fun _ => rfl) _ _ fun _ => rfl), (h c).2⟩)
    (Value.run m ρ)

end Cert.Reference.Masked

end
-- ==== Proof.ReferenceIdealMasked.lean ====
/-
  What the reference ReferenceIdeal leaves in its result array: the masked argument.
-/
module

public import proofs.«01_k».proof.Proof.Mask
public import proofs.«01_k».proof.Proof.Gen.ReferenceIdeal.Run

@[expose] public section

noncomputable section

namespace Cert.ReferenceIdeal.Masked

open Cert.ReferenceIdeal Cert.ReferenceIdeal.Gen Cert.Mask Idealize.ShloMosaic Idealize.ShloMosaic.TcCoe Idealize.SL.Sem

variable {F : FTy → Type} [FloatOps F]
variable (m : (ℓ : Loc nD τ sig) → Buf (Elt F) ℓ) (ρ : Dev nD → PrngReg)

/-- The reference ends with its result array at the masked argument, and the argument unchanged. -/
theorem run : θ_run defs (onTc (τ := τ) (main (F := F))) ⟨m, fun _ => 0, ρ⟩ fun r => ∀ c : Dev nD,
      r.2.mem ((c : Thread nD τ).loc main_v2) = masked (F := F) (m ((c : Thread nD τ).loc main_arg0))
      ∧ r.2.mem ((c : Thread nD τ).loc main_arg0) = m ((c : Thread nD τ).loc main_arg0) :=
  (θ_run defs _ _).mono (fun _ h c => ⟨(h c).1.trans (scatter_eq _ _ rfl rfl rfl (fun _ => rfl) _ _ fun _ => rfl), (h c).2⟩)
    (Value.run m ρ)

end Cert.ReferenceIdeal.Masked

end
-- ==== Proof.lean ====
/-
  The frequency-mask kernel and its reference compute the same array: `Mask.masked` of the argument, in words (`bitexact`) and
  over the extended reals (`algebraic`). The runs are in the four `…Masked` modules; this file assembles the claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Value
public import proofs.«01_k».proof.Proof.Gen.Reference
public import proofs.«01_k».proof.Proof.Gen.Reference.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelMasked
public import proofs.«01_k».proof.Proof.KernelIdealMasked
public import proofs.«01_k».proof.Proof.ReferenceMasked
public import proofs.«01_k».proof.Proof.ReferenceIdealMasked
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its argument unchanged; it has no semaphore, so every counter is zero. -/
theorem frame_reference : Cert.quiescent_Reference := fun m ρ _ =>
  (θ_run Cert.Reference.defs _ _).mono (fun r h => ⟨fun c => (h c).2, sem_eq_zero_of_no_sems (by decide) r.2⟩)
    (Cert.Reference.Masked.run (F := Bits) m ρ)

/-- The same of the reference over the extended reals. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Masked.run (F := Ideal) m ρ)

/-- Kernel and reference, run on the same argument, end with the same words: the masked argument. -/
theorem bitexact : Cert.bitexact_Kernel_Reference := by
  intro m ρ m' ρ' _ hagree
  refine ⟨fun c => Cert.Kernel.Masked.result m c, Cert.Kernel.Masked.run (F := Bits) m ρ, ?_⟩
  exact (θ_run Cert.Reference.defs _ _).mono (fun _ h c => ⟨(h c).1.trans (congrArg Cert.Mask.masked (hagree c)), (h c).2⟩)
    (Cert.Reference.Masked.run (F := Bits) m' ρ')

/-- Kernel and reference, run on the same argument over the extended reals, end with the same array: the masked argument. -/
theorem algebraic : Cert.algebraic_KernelIdeal_ReferenceIdeal := by
  intro m ρ m' ρ' _ hagree
  refine ⟨fun c => Cert.KernelIdeal.Masked.result m c, Cert.KernelIdeal.Masked.run (F := Ideal) m ρ, ?_⟩
  exact (θ_run Cert.ReferenceIdeal.defs _ _).mono (fun _ h c => ⟨(h c).1.trans (congrArg Cert.Mask.masked (hagree c)), (h c).2⟩)
    (Cert.ReferenceIdeal.Masked.run (F := Ideal) m' ρ')

/-- The certificate's claim. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, frame_reference, fun m ρ _ => Cert.KernelIdeal.Gen.frame m ρ, frame_reference_ideal,
    bitexact, trivial, algebraic⟩

end Cert.Proof

end
